-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16384x768 : Shape := ⟨2, ![16384, 768]⟩
abbrev S256x768 : Shape := ⟨2, ![256, 768]⟩
abbrev S256 : Shape := ⟨1, ![256]⟩
abbrev S1x256 : Shape := ⟨2, ![1, 256]⟩
abbrev S16384x256 : Shape := ⟨2, ![16384, 256]⟩
abbrev S6x1024x768 : Shape := ⟨3, ![6, 1024, 768]⟩
abbrev S6x1024x256 : Shape := ⟨3, ![6, 1024, 256]⟩
abbrev S6 : Shape := ⟨1, ![6]⟩
abbrev S2 : Shape := ⟨1, ![2]⟩
abbrev S1 : Shape := ⟨1, ![1]⟩
abbrev S_ : Shape := ⟨0, ![]⟩
abbrev S1x256x768 : Shape := ⟨3, ![1, 256, 768]⟩
abbrev S1x512x768 : Shape := ⟨3, ![1, 512, 768]⟩
abbrev S512x768 : Shape := ⟨2, ![512, 768]⟩
abbrev S1x1024x768 : Shape := ⟨3, ![1, 1024, 768]⟩
abbrev S1024x768 : Shape := ⟨2, ![1024, 768]⟩
abbrev S256x256 : Shape := ⟨2, ![256, 256]⟩
abbrev S1x256x256 : Shape := ⟨3, ![1, 256, 256]⟩
abbrev S512x256 : Shape := ⟨2, ![512, 256]⟩
abbrev S1x512x256 : Shape := ⟨3, ![1, 512, 256]⟩
abbrev S1024x256 : Shape := ⟨2, ![1024, 256]⟩
abbrev S1x1024x256 : Shape := ⟨3, ![1, 1024, 256]⟩

abbrev nBuf : Space → Nat
  | .hbm => 5
  | .vmem => 4
  | .smem => 0
  | _ => 0

abbrev bufTy : (tb : Table) → Fin (tcTables nBuf tb) → BufTy
  | .hbm, ⟨0, _⟩ => ⟨S16384x768, .f32⟩
  | .hbm, ⟨1, _⟩ => ⟨S256x768, .f32⟩
  | .hbm, ⟨2, _⟩ => ⟨S256, .f32⟩
  | .hbm, ⟨3, _⟩ => ⟨S1x256, .f32⟩
  | .hbm, ⟨4, _⟩ => ⟨S16384x256, .f32⟩
  | .local _ .vmem, ⟨0, _⟩ => ⟨S6x1024x768, .f32⟩
  | .local _ .vmem, ⟨1, _⟩ => ⟨S6x1024x256, .f32⟩
  | .local _ .vmem, ⟨2, _⟩ => ⟨S256x768, .f32⟩
  | .local _ .vmem, ⟨3, _⟩ => ⟨S1x256, .f32⟩
  | _, _ => ⟨S16384x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩

abbrev nD : Nat := 1
abbrev τ : Topo := Topo.v7x

variable {F : FTy → Type} [FloatOps F]

abbrev grid0 : Pipeline.Grid := .none
-- ==== ReferenceIdeal.lean ====
abbrev S16384x768 : Shape := ⟨2, ![16384, 768]⟩
abbrev S256x768 : Shape := ⟨2, ![256, 768]⟩
abbrev S256 : Shape := ⟨1, ![256]⟩
abbrev S768x256 : Shape := ⟨2, ![768, 256]⟩
abbrev S16384x256 : Shape := ⟨2, ![16384, 256]⟩
abbrev S1x256 : Shape := ⟨2, ![1, 256]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S16384x768, .f32⟩
  | .hbm, ⟨1, _⟩ => ⟨S256x768, .f32⟩
  | .hbm, ⟨2, _⟩ => ⟨S256, .f32⟩
  | .hbm, ⟨3, _⟩ => ⟨S768x256, .f32⟩
  | .hbm, ⟨4, _⟩ => ⟨S16384x256, .f32⟩
  | .hbm, ⟨5, _⟩ => ⟨S1x256, .f32⟩
  | .hbm, ⟨6, _⟩ => ⟨S16384x256, .f32⟩
  | .hbm, ⟨7, _⟩ => ⟨S16384x256, .f32⟩
  | .hbm, ⟨8, _⟩ => ⟨S_, .f32⟩
  | .hbm, ⟨9, _⟩ => ⟨S16384x256, .f32⟩
  | .hbm, ⟨10, _⟩ => ⟨S16384x256, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S16384x256, .f32⟩
  | .hbm, ⟨15, _⟩ => ⟨S16384x256, .f32⟩
  | .hbm, ⟨16, _⟩ => ⟨S_, .f32⟩
  | .hbm, ⟨17, _⟩ => ⟨S16384x256, .f32⟩
  | .hbm, ⟨18, _⟩ => ⟨S16384x256, .f32⟩
  | _, _ => ⟨S16384x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_call0_cst : Ref sig .tc := ⟨.hbm, 8, rfl⟩
abbrev main_call0_v0 : Ref sig .tc := ⟨.hbm, 9, rfl⟩
abbrev main_v5 : Ref sig .tc := ⟨.hbm, 10, rfl⟩
abbrev main_cst : Ref sig .tc := ⟨.hbm, 11, rfl⟩
abbrev main_cst_0 : Ref sig .tc := ⟨.hbm, 12, rfl⟩
abbrev main_call1_v0 : Ref sig .tc := ⟨.hbm, 13, rfl⟩
abbrev main_call1_v1 : Ref sig .tc := ⟨.hbm, 14, rfl⟩
abbrev main_call1_v2 : Ref sig .tc := ⟨.hbm, 15, rfl⟩
abbrev main_call1_v3 : Ref sig .tc := ⟨.hbm, 16, rfl⟩
abbrev main_call1_v4 : Ref sig .tc := ⟨.hbm, 17, rfl⟩
abbrev main_v6 : Ref sig .tc := ⟨.hbm, 18, rfl⟩

abbrev nD : Nat := 1
abbrev τ : Topo := Topo.v7x

variable {F : FTy → Type} [FloatOps F]
-- ==== Proof.BodyRun.lean ====
/-
  The kernel's body run from start to end. The body is started holding its four arrays and its four scratch buffers whole,
  and its fourteen transfer counters at zero; it ends holding the same buffers, the counters at zero again, and the result
  array with twenty row tiles written over what it held.
-/
module

public import proofs.«01_k».proof.Proof.Gen.KernelIdeal.Frame
public import proofs.«01_k».proof.Proof.Gen.KernelIdeal.Skeleton
public import Idealize.ShloMosaic.Lib.Pipeline.Routed

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UC sig nD τ) ℕ

/-- A whole array of core `c`, held in full at contents `f`. -/
abbrev held (c : Dev nD) {sp : Space} {s : Shape} {e : EltTy} (m : Memref sig .tc sp s e)
    (f : Buf (Elt F) (m.view.loc (c : Thread nD τ))) : sProp 𝕄 :=
  m.view.loc (c : Thread nD τ) ↦{fullShare} f

/-- The input rows `x`, in HBM. -/
abbrev xA : Memref sig .tc .hbm S16384x768 .f32 := Memref.whole main_arg0
/-- The weight, in HBM. -/
abbrev wA : Memref sig .tc .hbm S256x768 .f32 := Memref.whole main_arg1
/-- The bias as one row, in HBM. -/
abbrev bA : Memref sig .tc .hbm S1x256 .f32 := Memref.whole main_v0
/-- The result, in HBM. -/
abbrev oA : Memref sig .tc .hbm S16384x256 .f32 := Memref.whole main_v1
/-- The ring of six slots the tiles of `x` are loaded into. -/
abbrev xS : Memref sig .tc .vmem S6x1024x768 .f32 := Memref.whole cc0_scratch0
/-- The ring of six slots the tiles of the result are stored from. -/
abbrev oS : Memref sig .tc .vmem S6x1024x256 .f32 := Memref.whole cc0_scratch1
/-- The weight's copy in VMEM. -/
abbrev wS : Memref sig .tc .vmem S256x768 .f32 := Memref.whole cc0_scratch2
/-- The bias row's copy in VMEM. -/
abbrev bS : Memref sig .tc .vmem S1x256 .f32 := Memref.whole cc0_scratch3

set_option maxHeartbeats 4000000 in
set_option sl_exec.dmaWindow true in
/-- The body's run, with the list of the result's tiles as the run leaves them: from the four arrays and the four scratch
    buffers held whole, every counter at zero, it ends with the three arrays it reads unchanged, the result with the
    tiles of the list written over its old contents, the scratch buffers at some contents, every counter at zero. -/
def bodyRun (c : Dev nD) (fx : Buf (Elt F) (xA.view.loc (c : Thread nD τ))) (fw : Buf (Elt F) (wA.view.loc (c : Thread nD τ)))
    (fb : Buf (Elt F) (bA.view.loc (c : Thread nD τ))) (fs0 : Buf (Elt F) (xS.view.loc (c : Thread nD τ)))
    (fs1 : Buf (Elt F) (oS.view.loc (c : Thread nD τ))) (fs2 : Buf (Elt F) (wS.view.loc (c : Thread nD τ)))
    (fs3 : Buf (Elt F) (bS.view.loc (c : Thread nD τ))) :
    { L : List (View.Piece (Elt F) S16384x256 .f32) //
      ∀ (fo : Buf (Elt F) (oA.view.loc (c : Thread nD τ))) (W : Waits sig Unit) (K : PUnit → sProp 𝕄),
        iprop(held c xA fx ∗ held c wA fw ∗ held c bA fb ∗ held c oA fo
            ∗ held c xS fs0 ∗ held c oS fs1 ∗ held c wS fs2 ∗ held c bS fs3
            ∗ semVal ((c : Thread nD τ), SemLoc.dma 0) 0 ∗ semVal ((c : Thread nD τ), SemLoc.dma 1) 0
            ∗ semVal ((c : Thread nD τ), SemLoc.dma 2) 0 ∗ semVal ((c : Thread nD τ), SemLoc.dma 3) 0
            ∗ semVal ((c : Thread nD τ), SemLoc.dma 4) 0 ∗ semVal ((c : Thread nD τ), SemLoc.dma 5) 0
            ∗ semVal ((c : Thread nD τ), SemLoc.dma 6) 0 ∗ semVal ((c : Thread nD τ), SemLoc.dma 7) 0
            ∗ semVal ((c : Thread nD τ), SemLoc.dma 8) 0 ∗ semVal ((c : Thread nD τ), SemLoc.dma 9) 0
            ∗ semVal ((c : Thread nD τ), SemLoc.dma 10) 0 ∗ semVal ((c : Thread nD τ), SemLoc.dma 11) 0
            ∗ semVal ((c : Thread nD τ), SemLoc.dma 12) 0 ∗ semVal ((c : Thread nD τ), SemLoc.dma 13) 0
            ∗ owes (c : Thread nD τ) 0 W
            ∗ (iprop(held c xA fx ∗ held c wA fw ∗ held c bA fb ∗ held c oA (oA.view.writes (Elt F) fo L)
                ∗ (∃ f, held c xS f) ∗ (∃ f, held c oS f) ∗ (∃ f, held c wS f) ∗ (∃ f, held c bS f)
                ∗ semVal ((c : Thread nD τ), SemLoc.dma 0) 0 ∗ semVal ((c : Thread nD τ), SemLoc.dma 1) 0
                ∗ semVal ((c : Thread nD τ), SemLoc.dma 2) 0 ∗ semVal ((c : Thread nD τ), SemLoc.dma 3) 0
                ∗ semVal ((c : Thread nD τ), SemLoc.dma 4) 0 ∗ semVal ((c : Thread nD τ), SemLoc.dma 5) 0
                ∗ semVal ((c : Thread nD τ), SemLoc.dma 6) 0 ∗ semVal ((c : Thread nD τ), SemLoc.dma 7) 0
                ∗ semVal ((c : Thread nD τ), SemLoc.dma 8) 0 ∗ semVal ((c : Thread nD τ), SemLoc.dma 9) 0
                ∗ semVal ((c : Thread nD τ), SemLoc.dma 10) 0 ∗ semVal ((c : Thread nD τ), SemLoc.dma 11) 0
                ∗ semVal ((c : Thread nD τ), SemLoc.dma 12) 0 ∗ semVal ((c : Thread nD τ), SemLoc.dma 13) 0
                ∗ (∃ W', owes (c : Thread nD τ) 0 W')) -∗ K ⟨⟩))
          ⊢ wp frame (wpE (defs₀ (F := F)) Variants.none c none) Set.univ (bodyAt0 (F := F) t0_0) K } := by
  refine ⟨?_, fun fo W K => ?run⟩
  case run =>
    unfold bodyAt0
    simp only [cc0_body_eq_skeleton]; unfold cc0_body_skel
    iintro ⟨Hx, Hw, Hb, Ho, HX, HO, HW, HB, Hl0, Hl1, Hl2, Hl3, Hl4, Hl5, Hs0, Hs1, Hs2, Hs3, Hs4, Hs5, Hw0, Hw1, HWt, Hk⟩
    sl_exec
    sl_step
    iapply Hk
    isplitl [Hx]; · iexact Hx
    isplitl [Hw]; · iexact Hw
    isplitl [Hb]; · iexact Hb
    isplitl [Ho]; · iexact Ho
    isplitl [HX]; · iexists _; iexact HX
    isplitl [HO]; · iexists _; iexact HO
    isplitl [HW]; · iexists _; iexact HW
    isplitl [HB]; · iexists _; iexact HB
    isplitl [Hl0]; · iexact Hl0
    isplitl [Hl1]; · iexact Hl1
    isplitl [Hl2]; · iexact Hl2
    isplitl [Hl3]; · iexact Hl3
    isplitl [Hl4]; · iexact Hl4
    isplitl [Hl5]; · iexact Hl5
    isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    isplitl [Hw0]; · iexact Hw0
    isplitl [Hw1]; · iexact Hw1
    iexists _; iexact HWt

end Cert.KernelIdeal.Hand

end
-- ==== Proof.Slots.lean ====
/-
  Reading a slot of a ring back. A ring is one buffer of shape [slots, rows, columns]; a transfer fills the leading rows of
  one slot through a squeezed slice, and a load reads the same rows of it. The theorems here say what such a load reads
  after a sequence of transfers into different slots, and what a squeezed slice reads right after a store to it. They
  mention no program.
-/
module

public import Idealize.ShloMosaic.Lib.Writes
public import Idealize.ShloMosaic.Lib.Tactic

@[expose] public section

namespace Cert.Slots

open Idealize.ShloMosaic

variable {sig : RefSig} {κ : Kind} {sp : Space} {s : Shape} {e : EltTy} {Val : EltTy → Type}

/-- A load of a box just filled through its squeezed slice, cast to the squeezed shape, is the payload. -/
theorem cast_hit (m : Memref sig κ sp s e) {off size : Fin s.rank → ℕ} {inb inb' : ∀ a, off a + size a ≤ s.size a}
    {h : ∀ a, (Rect.unit off size inb).stride a = 1} {s' : Shape} {hq : (Rect.unit off size inb).shape.Squeezes s'}
    {f : m.view.ty.Contents Val} {w : s'.Idx → Val e}
    {hc : (Rect.unit off size inb').shape.ShapeCasts s'} :
    shapeCast s' (m.view.readAt Val (Rect.unit off size inb').toLoadRect
      (((m.slice (Rect.unit off size inb) h).squeeze s' hq).view.write Val f w Finset.univ)) hc = w := by
  funext j
  exact congrFun (View.read_write_univ (v := ((m.slice (Rect.unit off size inb) h).squeeze s' hq).view) f w) j

/-- A load of one slot's box does not see a transfer into another slot. -/
theorem cast_miss {d : Fin 3 → ℕ} (m : Memref sig κ sp ⟨3, d⟩ e) {b b' : ℕ} {size size' : Fin 3 → ℕ}
    {inb : ∀ a, (![b, 0, 0] : Fin 3 → ℕ) a + size a ≤ d a} {inb' : ∀ a, (![b', 0, 0] : Fin 3 → ℕ) a + size' a ≤ d a}
    {h : ∀ a, (Rect.unit (s := ⟨3, d⟩) ![b', 0, 0] size' inb').stride a = 1} {s' s'' : Shape}
    {hq : (Rect.unit (s := ⟨3, d⟩) ![b', 0, 0] size' inb').shape.Squeezes s'} {f : m.view.ty.Contents Val} {w : s'.Idx → Val e}
    {hc : (Rect.unit (s := ⟨3, d⟩) ![b, 0, 0] size inb).shape.ShapeCasts s''} {t : s''.Idx → Val e}
    (hb : b ≠ b') (h1 : size 0 = 1) (h1' : size' 0 = 1)
    (ht : shapeCast s'' (m.view.readAt Val (Rect.unit (s := ⟨3, d⟩) ![b, 0, 0] size inb).toLoadRect f) hc = t) :
    shapeCast s'' (m.view.readAt Val (Rect.unit (s := ⟨3, d⟩) ![b, 0, 0] size inb).toLoadRect
      (((m.slice (Rect.unit (s := ⟨3, d⟩) ![b', 0, 0] size' inb') h).squeeze s' hq).view.write Val f w Finset.univ)) hc = t := by
  rw [← ht]
  refine congrArg (fun z => shapeCast s'' z hc) ?_
  funext x
  refine (congrFun (congrArg (m.view.readAt Val (Rect.unit (s := ⟨3, d⟩) ![b, 0, 0] size inb).toLoadRect)
    (View.write_reshape_univ (m.view.slice (Rect.unit (s := ⟨3, d⟩) ![b', 0, 0] size' inb')) hq.numel_eq f w)) x).trans ?_
  refine View.read_slice_write_of_not_mem (v := m.view) _ _ _ _ ?_
  rw [Rect.map_emb_univ]
  have hx := (x 0).isLt
  refine Rect.not_mem_set_of_axis _ _ 0 b' 1 rfl rfl h1' ?_
  have e : (((Rect.unit (s := ⟨3, d⟩) ![b, 0, 0] size inb).toLoadRect.idx x) 0).val = b + 1 * (x 0).val := rfl
  have hx' : (x 0).val < 1 := lt_of_lt_of_eq hx h1
  rw [e]; omega

/-- A squeezed slice read just after a store to its box of a payload cast from the squeezed shape is that payload. -/
theorem read_stored (m : Memref sig κ sp s e) {off size : Fin s.rank → ℕ} {inb inb' : ∀ a, off a + size a ≤ s.size a}
    {h : ∀ a, (Rect.unit off size inb).stride a = 1} {s' : Shape} {hq : (Rect.unit off size inb).shape.Squeezes s'}
    {f : m.view.ty.Contents Val} {L : List (View.Piece Val s e)} {w : s'.Idx → Val e}
    {hc : s'.ShapeCasts (Rect.unit off size inb').shape} :
    ((m.slice (Rect.unit off size inb) h).squeeze s' hq).view.read Val
      (m.view.writes Val f (⟨Rect.unit off size inb', shapeCast (Rect.unit off size inb').shape w hc⟩ :: L)) = w := by
  funext j
  have := View.read_writes_cons_emb m.view f (Rect.unit off size inb') (shapeCast (Rect.unit off size inb').shape w hc) L
    (Shape.reshapeEquiv hq.numel_eq j)
  refine this.trans ?_
  show w (Shape.reshapeEquiv hc (Shape.reshapeEquiv hq.numel_eq j)) = w j
  rw [Shape.reshapeEquiv_reshapeEquiv, Shape.reshapeEquiv_self]

/-- A whole buffer just filled through its own view reads the payload. -/
theorem load_whole {R : Ref sig κ} {off : Fin R.ty.shape.rank → ℕ} {inb : ∀ a, off a + R.ty.shape.size a ≤ R.ty.shape.size a}
    {f : (Memref.whole R).view.ty.Contents Val} {w : R.ty.shape.Idx → Val R.ty.elt} :
    (Memref.whole R).view.readAt Val (Rect.unit off R.ty.shape.size inb).toLoadRect
      ((Memref.whole R).view.write Val f w Finset.univ) = w := by
  funext x
  have e : (Rect.unit off R.ty.shape.size inb).toLoadRect.idx x = x := by
    funext a; apply Fin.ext
    have : off a = 0 := by have := inb a; omega
    show off a + 1 * (x a).val = (x a).val
    omega
  show (Memref.whole R).view.read Val _ _ = _
  rw [e, View.read_write_univ]

/-- Two lists of pieces agree when their heads' payloads and their tails do. -/
theorem cons_piece (r : Rect s) {w w' : r.shape.Idx → Val e} {L L' : List (View.Piece Val s e)} (h : w = w') (h' : L = L') :
    (⟨r, w⟩ :: L : List (View.Piece Val s e)) = ⟨r, w'⟩ :: L' := by rw [h, h']

end Cert.Slots

end
-- ==== Proof.Tiles.lean ====
/-
  What the twenty tiles of the result hold. One tile is the clipped product of a block of rows of `x` with the weight,
  plus the bias; the body's run leaves exactly these tiles, whatever the scratch buffers held before.
-/
module

public import proofs.«01_k».proof.Proof.BodyRun
public import proofs.«01_k».proof.Proof.Slots
public import Idealize.ShloMosaic.PureOps.Dims

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- What the kernel computes for one block of `n` rows: the block times the weight's transpose, onto zero, plus the bias
    row repeated down the rows, then at least 0, then at most 1. -/
def tileOut (n : ℕ) (hb : S1x256.Broadcasts ⟨2, ![n, 256]⟩) (x : FVec F ⟨2, ![n, 768]⟩ .f32) (w : FVec F S256x768 .f32) (b : FVec F S1x256 .f32) : FVec F ⟨2, ![n, 256]⟩ .f32 :=
  minimumf (broadcast ⟨2, ![n, 256]⟩ (Scalar.ofBits .f32 0x3F800000#32))
    (maximumf (broadcast ⟨2, ![n, 256]⟩ (Scalar.ofBits .f32 0x00000000#32))
      (addf (matmul (DotDims.transposedRhs n 768 256) none x w (constant ⟨2, ![n, 256]⟩ .f32 0x00000000#32))
        (broadcastTo ⟨2, ![n, 256]⟩ b hb)))

/-- The block of `n` rows of `x` from row `o`. -/
abbrev xRows (c : Dev nD) (n o : ℕ) (inb : ∀ a, (![o, 0] : Fin 2 → ℕ) a + (![n, 768] : Fin 2 → ℕ) a ≤ S16384x768.size a)
    (fx : Buf (Elt F) (xA.view.loc (c : Thread nD τ))) : FVec F ⟨2, ![n, 768]⟩ .f32 :=
  (xA.slice (Rect.unit (s := S16384x768) ![o, 0] ![n, 768] inb) (fun _ => rfl)).view.read (Elt F) fx

/-- The tile of `n` rows of the result from row `o`, as a piece of the result array. -/
abbrev tile (c : Dev nD) (n o : ℕ) (hb : S1x256.Broadcasts ⟨2, ![n, 256]⟩) (inb : ∀ a, (![o, 0] : Fin 2 → ℕ) a + (![n, 768] : Fin 2 → ℕ) a ≤ S16384x768.size a)
    (inb' : ∀ a, (![o, 0] : Fin 2 → ℕ) a + (![n, 256] : Fin 2 → ℕ) a ≤ S16384x256.size a)
    (fx : Buf (Elt F) (xA.view.loc (c : Thread nD τ))) (fw : Buf (Elt F) (wA.view.loc (c : Thread nD τ)))
    (fb : Buf (Elt F) (bA.view.loc (c : Thread nD τ))) : View.Piece (Elt F) S16384x256 .f32 :=
  ⟨Rect.unit (s := S16384x256) ![o, 0] ![n, 256] inb', tileOut n hb (xRows c n o inb fx) (wA.view.read (Elt F) fw) (bA.view.read (Elt F) fb)⟩

/-- The twenty tiles, the last one first. -/
def tiles (c : Dev nD) (fx : Buf (Elt F) (xA.view.loc (c : Thread nD τ))) (fw : Buf (Elt F) (wA.view.loc (c : Thread nD τ)))
    (fb : Buf (Elt F) (bA.view.loc (c : Thread nD τ))) : List (View.Piece (Elt F) S16384x256 .f32) :=
  [tile c 256 16128 broadcasts_S1x256_S256x256 inb_S16384x768_S256x768_16128_0 inb_S16384x256_S256x256_16128_0 fx fw fb,
    tile c 256 15872 broadcasts_S1x256_S256x256 inb_S16384x768_S256x768_15872_0 inb_S16384x256_S256x256_15872_0 fx fw fb,
    tile c 512 15360 broadcasts_S1x256_S512x256 inb_S16384x768_S512x768_15360_0 inb_S16384x256_S512x256_15360_0 fx fw fb,
    tile c 1024 14336 broadcasts_S1x256_S1024x256 inb_S16384x768_S1024x768_14336_0 inb_S16384x256_S1024x256_14336_0 fx fw fb,
    tile c 1024 13312 broadcasts_S1x256_S1024x256 inb_S16384x768_S1024x768_13312_0 inb_S16384x256_S1024x256_13312_0 fx fw fb,
    tile c 1024 12288 broadcasts_S1x256_S1024x256 inb_S16384x768_S1024x768_12288_0 inb_S16384x256_S1024x256_12288_0 fx fw fb,
    tile c 1024 11264 broadcasts_S1x256_S1024x256 inb_S16384x768_S1024x768_11264_0 inb_S16384x256_S1024x256_11264_0 fx fw fb,
    tile c 1024 10240 broadcasts_S1x256_S1024x256 inb_S16384x768_S1024x768_10240_0 inb_S16384x256_S1024x256_10240_0 fx fw fb,
    tile c 1024 9216 broadcasts_S1x256_S1024x256 inb_S16384x768_S1024x768_9216_0 inb_S16384x256_S1024x256_9216_0 fx fw fb,
    tile c 1024 8192 broadcasts_S1x256_S1024x256 inb_S16384x768_S1024x768_8192_0 inb_S16384x256_S1024x256_8192_0 fx fw fb,
    tile c 1024 7168 broadcasts_S1x256_S1024x256 inb_S16384x768_S1024x768_7168_0 inb_S16384x256_S1024x256_7168_0 fx fw fb,
    tile c 1024 6144 broadcasts_S1x256_S1024x256 inb_S16384x768_S1024x768_6144_0 inb_S16384x256_S1024x256_6144_0 fx fw fb,
    tile c 1024 5120 broadcasts_S1x256_S1024x256 inb_S16384x768_S1024x768_5120_0 inb_S16384x256_S1024x256_5120_0 fx fw fb,
    tile c 1024 4096 broadcasts_S1x256_S1024x256 inb_S16384x768_S1024x768_4096_0 inb_S16384x256_S1024x256_4096_0 fx fw fb,
    tile c 1024 3072 broadcasts_S1x256_S1024x256 inb_S16384x768_S1024x768_3072_0 inb_S16384x256_S1024x256_3072_0 fx fw fb,
    tile c 1024 2048 broadcasts_S1x256_S1024x256 inb_S16384x768_S1024x768_2048_0 inb_S16384x256_S1024x256_2048_0 fx fw fb,
    tile c 1024 1024 broadcasts_S1x256_S1024x256 inb_S16384x768_S1024x768_1024_0 inb_S16384x256_S1024x256_1024_0 fx fw fb,
    tile c 512 512 broadcasts_S1x256_S512x256 inb_S16384x768_S512x768_512_0 inb_S16384x256_S512x256_512_0 fx fw fb,
    tile c 256 256 broadcasts_S1x256_S256x256 inb_S16384x768_S256x768_256_0 inb_S16384x256_S256x256_256_0 fx fw fb,
    tile c 256 0 broadcasts_S1x256_S256x256 inb_S16384x768_S256x768_0_0 inb_S16384x256_S256x256_0_0 fx fw fb]

/-- A tile read back from its slot of the output ring just after it was stored there: it was computed from a block loaded
    from the input ring, a weight and a bias loaded from their copies; if those loads read `x`, `w` and `b`, it is
    `tileOut` of them. -/
theorem stored_tile {n : ℕ} {hb : S1x256.Broadcasts ⟨2, ![n, 256]⟩} {off : Fin 3 → ℕ} {inb inb' : ∀ a, off a + (![1, n, 256] : Fin 3 → ℕ) a ≤ S6x1024x256.size a}
    {h : ∀ a, (Rect.unit (s := S6x1024x256) off ![1, n, 256] inb).stride a = 1}
    {hq : (Rect.unit (s := S6x1024x256) off ![1, n, 256] inb).shape.Squeezes ⟨2, ![n, 256]⟩}
    {f : oS.view.ty.Contents (Elt F)} {L : List (View.Piece (Elt F) S6x1024x256 .f32)}
    {hc : (⟨2, ![n, 256]⟩ : Shape).ShapeCasts (Rect.unit (s := S6x1024x256) off ![1, n, 256] inb').shape}
    {lx x : FVec F ⟨2, ![n, 768]⟩ .f32} {lw w : FVec F S256x768 .f32} {lb b : FVec F S1x256 .f32}
    (hx : lx = x) (hw : lw = w) (hbb : lb = b) :
    ReadAs.same.apply (((oS.slice (Rect.unit (s := S6x1024x256) off ![1, n, 256] inb) h).squeeze ⟨2, ![n, 256]⟩ hq).view.read (Elt F)
      (oS.view.writes (Elt F) f (⟨Rect.unit (s := S6x1024x256) off ![1, n, 256] inb',
        shapeCast (Rect.unit (s := S6x1024x256) off ![1, n, 256] inb').shape (tileOut n hb lx lw lb) hc⟩ :: L)))
      = tileOut n hb x w b := by
  subst hx hw hbb
  exact Slots.read_stored oS

set_option maxHeartbeats 4000000 in
/-- The run's tiles are the twenty tiles, whatever the scratch buffers held. -/
theorem bodyRun_tiles (c : Dev nD) (fx : Buf (Elt F) (xA.view.loc (c : Thread nD τ))) (fw : Buf (Elt F) (wA.view.loc (c : Thread nD τ)))
    (fb : Buf (Elt F) (bA.view.loc (c : Thread nD τ))) (fs0 : Buf (Elt F) (xS.view.loc (c : Thread nD τ)))
    (fs1 : Buf (Elt F) (oS.view.loc (c : Thread nD τ))) (fs2 : Buf (Elt F) (wS.view.loc (c : Thread nD τ)))
    (fs3 : Buf (Elt F) (bS.view.loc (c : Thread nD τ))) : (bodyRun c fx fw fb fs0 fs1 fs2 fs3).1 = tiles c fx fw fb := by
  have hw : wS.view.readAt (Elt F) (Rect.unit ![0, 0] S256x768.size inb_S256x768_S256x768_0_0).toLoadRect
      (wS.view.write (Elt F) fs2 (ReadAs.same.apply (wA.view.read (Elt F) fw)) Finset.univ) = wA.view.read (Elt F) fw := Slots.load_whole
  have hb : bS.view.readAt (Elt F) (Rect.unit ![0, 0] S1x256.size inb_S1x256_S1x256_0_0).toLoadRect
      (bS.view.write (Elt F) fs3 (ReadAs.same.apply (bA.view.read (Elt F) fb)) Finset.univ) = bA.view.read (Elt F) fb := Slots.load_whole
  unfold bodyRun tiles
  repeat refine Slots.cons_piece _ ?_ ?_; rotate_left
  · rfl
  on_goal 1 => unfold bodyRun.sl.dma100 bodyRun.sl.HO_20
  on_goal 2 => unfold bodyRun.sl.dma95 bodyRun.sl.HO_19
  on_goal 3 => unfold bodyRun.sl.dma90 bodyRun.sl.HO_18
  on_goal 4 => unfold bodyRun.sl.dma85 bodyRun.sl.HO_17
  on_goal 5 => unfold bodyRun.sl.dma80 bodyRun.sl.HO_16
  on_goal 6 => unfold bodyRun.sl.dma75 bodyRun.sl.HO_15
  on_goal 7 => unfold bodyRun.sl.dma70_1 bodyRun.sl.HO_14
  on_goal 8 => unfold bodyRun.sl.dma65_1 bodyRun.sl.HO_13
  on_goal 9 => unfold bodyRun.sl.dma60_1 bodyRun.sl.HO_12
  on_goal 10 => unfold bodyRun.sl.dma55_1 bodyRun.sl.HO_11
  on_goal 11 => unfold bodyRun.sl.dma50_1 bodyRun.sl.HO_10
  on_goal 12 => unfold bodyRun.sl.dma45_1 bodyRun.sl.HO_9
  on_goal 13 => unfold bodyRun.sl.dma40_1 bodyRun.sl.HO_8
  on_goal 14 => unfold bodyRun.sl.dma35_1 bodyRun.sl.HO_7
  on_goal 15 => unfold bodyRun.sl.dma30_1 bodyRun.sl.HO_6
  on_goal 16 => unfold bodyRun.sl.dma25_1 bodyRun.sl.HO_5
  on_goal 17 => unfold bodyRun.sl.dma20_1 bodyRun.sl.HO_4 bodyRun.sl.r_3 k0_pay8
  on_goal 18 => unfold bodyRun.sl.dma15_1 bodyRun.sl.HO_3
  on_goal 19 => unfold bodyRun.sl.dma10_1 bodyRun.sl.HO_2
  on_goal 20 => unfold bodyRun.sl.dma5_1 bodyRun.sl.HO_1
  all_goals
    refine stored_tile ?_ hw hb
    repeat' first
      | refine Slots.cast_miss xS (by decide) rfl rfl ?_
      | exact Slots.cast_hit xS

end Cert.KernelIdeal.Hand

end
-- ==== Proof.Run.lean ====
/-
  The program's run. Its one host operation writes the bias as a row; then the kernel's body runs once, from the four HBM
  arrays it uses. The run ends with the result array holding the twenty tiles, every argument as it was, every counter at
  zero.
-/
module

public import proofs.«01_k».proof.Proof.Tiles

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UC sig nD τ) ℕ

variable (m : (ℓ : Loc nD τ sig) → Buf (Elt F) ℓ) (ρ : Dev nD → PrngReg)

/-! ## What the body takes and gives back -/

/-- The kernel's fourteen transfer counters: six of the loads, six of the stores, two of the weight's and bias' copies. -/
abbrev counters : Fin 14 → SemLoc sig :=
  ![SemLoc.dma 0, SemLoc.dma 1, SemLoc.dma 2, SemLoc.dma 3, SemLoc.dma 4, SemLoc.dma 5, SemLoc.dma 6, SemLoc.dma 7,
    SemLoc.dma 8, SemLoc.dma 9, SemLoc.dma 10, SemLoc.dma 11, SemLoc.dma 12, SemLoc.dma 13]

/-- They are scoped, distinct, and no staging counter of the call's. -/
theorem counters_facts : Pipeline.OwnSemFacts cfg0.spec counters := by decide

/-- The arrays the body's transfers read and write. -/
abbrev used : Finset (Ref sig .tc) := {main_arg0, main_arg1, main_v0, main_v1}

/-- They are unscoped, and none of them is staged. -/
theorem used_sub : used ⊆ Pipeline.restRefs sig cfg0.spec := by decide

/-- The result array after the run: the twenty tiles written over what it held. -/
abbrev result (c : Dev nD) : Buf (Elt F) ((c : Thread nD τ).loc main_v1) :=
  oA.view.writes (Elt F) (V m c main_v1) (tiles c (V m c main_arg0) (V m c main_arg1) (V m c main_v0))

/-- The arrays' contents after the body: as before it, but the result. -/
def Y (c : Dev nD) : (b : Ref sig .tc) → Buf (Elt F) ((c : Thread nD τ).loc b) := Function.update (V m c) main_v1 (result m c)

/-- The result's contents after the body. -/
theorem Y_result (c : Dev nD) : Y m c main_v1 = result m c := Function.update_self ..
/-- Any other array's contents after the body. -/
theorem Y_other (c : Dev nD) (b : Ref sig .tc) (h : b ≠ main_v1) : Y m c b = V m c b := Function.update_of_ne h ..

/-- What the body holds before it starts, and holds after it ends, buffer by buffer and counter by counter. -/
theorem ends_eq (c : Dev nD) (W : (b : Ref sig .tc) → Buf (Elt F) ((c : Thread nD τ).loc b)) :
    (Pipeline.Ends cfg0.spec counters used c W : sProp 𝕄)
      = iprop((held c xA (W main_arg0) ∗ held c wA (W main_arg1) ∗ held c bA (W main_v0) ∗ held c oA (W main_v1))
        ∗ (semVal ((c : Thread nD τ), SemLoc.dma 0) 0 ∗ semVal ((c : Thread nD τ), SemLoc.dma 1) 0
            ∗ semVal ((c : Thread nD τ), SemLoc.dma 2) 0 ∗ semVal ((c : Thread nD τ), SemLoc.dma 3) 0
            ∗ semVal ((c : Thread nD τ), SemLoc.dma 4) 0 ∗ semVal ((c : Thread nD τ), SemLoc.dma 5) 0
            ∗ semVal ((c : Thread nD τ), SemLoc.dma 6) 0 ∗ semVal ((c : Thread nD τ), SemLoc.dma 7) 0
            ∗ semVal ((c : Thread nD τ), SemLoc.dma 8) 0 ∗ semVal ((c : Thread nD τ), SemLoc.dma 9) 0
            ∗ semVal ((c : Thread nD τ), SemLoc.dma 10) 0 ∗ semVal ((c : Thread nD τ), SemLoc.dma 11) 0
            ∗ semVal ((c : Thread nD τ), SemLoc.dma 12) 0 ∗ semVal ((c : Thread nD τ), SemLoc.dma 13) 0)
        ∗ ((∃ f, held c xS f) ∗ (∃ f, held c oS f) ∗ (∃ f, held c wS f) ∗ (∃ f, held c bS f))
        ∗ ∃ r, prngReg c r) := by
  unfold Pipeline.Ends
  rw [scopedRest0_eq c, Pipeline.ownSems0_eq_of_list c counters [0, 1, 2, 3, 4, 5, 6, 7, 8, 9, 10, 11, 12, 13] (by decide) (by decide)]
  unfold Pipeline.routed
  rw [BI.bigSep_eq_bigSepL_of_eq [main_arg0, main_arg1, main_v0, main_v1] (by decide) (by decide)]
  rfl

/-! ## The body -/

/-- The proof's data of the one call on core `c`: no array is staged; the body is entered with the arrays as the host
    operation left them and left with the result written. -/
def dats (_ : Fin 1) (c : Dev nD) : Dat τ (Elt F) Unit ℕ (Pipeline.UC sig nD τ) ℕ cfg0 c where
  A w := w.elim0
  after w t := w.elim0
  Φ t := Pipeline.Ends cfg0.spec counters used c (if t.val = 0 then V m c else Y m c)
  q _ := fullShare
  owed _ := 0

/-- What the body starts from. -/
def bodyPre (c : Dev nD) (t : Fin cfg0.N) : sProp 𝕄 := iprop((dats m 0 c).Φ t.castSucc ∗ (dats m 0 c).owesAt () t.castSucc ∗ emp)
/-- What it ends with. -/
def bodyPost (c : Dev nD) (t : Fin cfg0.N) : sProp 𝕄 := iprop((dats m 0 c).Φ t.succ ∗ (dats m 0 c).owesAt () t.succ ∗ emp)

/-- The body's triple: its run from the arrays' contents, with the list of tiles named. -/
theorem sound_body (c : Dev nD) (t : Fin cfg0.N) :
    bodyPre m c t ⊢ wp frame (wpE (defs₀ (F := F)) Variants.none c none) Set.univ (bodyAt0 t) (fun _ => bodyPost m c t) := by
  rw [fin_N0 t]
  unfold bodyPre bodyPost
  rw [show (dats m 0 c).Φ (t0_0 : Fin cfg0.N).castSucc = Pipeline.Ends cfg0.spec counters used c (V m c) from rfl,
    show (dats m 0 c).Φ (t0_0 : Fin cfg0.N).succ = Pipeline.Ends cfg0.spec counters used c (Y m c) from rfl, ends_eq, ends_eq,
    Y_result, Y_other m c main_arg0 (by decide), Y_other m c main_arg1 (by decide), Y_other m c main_v0 (by decide)]
  unfold Dat.owesAt Pipeline.owesWithin
  rw [show (dats m 0 c).owed (t0_0 : Fin cfg0.N).castSucc = 0 from rfl, show (dats m 0 c).owed (t0_0 : Fin cfg0.N).succ = 0 from rfl]
  iintro ⟨⟨⟨Hx, Hw, Hb, Ho⟩, ⟨Hl0, Hl1, Hl2, Hl3, Hl4, Hl5, Hs0, Hs1, Hs2, Hs3, Hs4, Hs5, Hw0, Hw1⟩, ⟨⟨%fs0, HX⟩, ⟨%fs1, HO⟩, ⟨%fs2, HW⟩, ⟨%fs3, HB⟩⟩, Hg⟩, ⟨%W, -, HWt⟩, -⟩
  have run := (bodyRun c (V m c main_arg0) (V m c main_arg1) (V m c main_v0) fs0 fs1 fs2 fs3).2 (V m c main_v1) W
  rw [bodyRun_tiles] at run
  iapply (run _)
  isplitl [Hx]; · iexact Hx
  isplitl [Hw]; · iexact Hw
  isplitl [Hb]; · iexact Hb
  isplitl [Ho]; · iexact Ho
  isplitl [HX]; · iexact HX
  isplitl [HO]; · iexact HO
  isplitl [HW]; · iexact HW
  isplitl [HB]; · iexact HB
  isplitl [Hl0]; · iexact Hl0
  isplitl [Hl1]; · iexact Hl1
  isplitl [Hl2]; · iexact Hl2
  isplitl [Hl3]; · iexact Hl3
  isplitl [Hl4]; · iexact Hl4
  isplitl [Hl5]; · iexact Hl5
  isplitl [Hs0]; · iexact Hs0
  isplitl [Hs1]; · iexact Hs1
  isplitl [Hs2]; · iexact Hs2
  isplitl [Hs3]; · iexact Hs3
  isplitl [Hs4]; · iexact Hs4
  isplitl [Hs5]; · iexact Hs5
  isplitl [Hw0]; · iexact Hw0
  isplitl [Hw1]; · iexact Hw1
  isplitl [HWt]; · iexact HWt
  iintro ⟨Hx, Hw, Hb, Ho, HX, HO, HW, HB, Hl0, Hl1, Hl2, Hl3, Hl4, Hl5, Hs0, Hs1, Hs2, Hs3, Hs4, Hs5, Hw0, Hw1, ⟨%W', HWt⟩⟩
  isplitr [HWt]
  · isplitl [Hx Hw Hb Ho]
    · isplitl [Hx]; · iexact Hx
      isplitl [Hw]; · iexact Hw
      isplitl [Hb]; · iexact Hb
      iexact Ho
    isplitl [Hl0 Hl1 Hl2 Hl3 Hl4 Hl5 Hs0 Hs1 Hs2 Hs3 Hs4 Hs5 Hw0 Hw1]
    · isplitl [Hl0]; · iexact Hl0
      isplitl [Hl1]; · iexact Hl1
      isplitl [Hl2]; · iexact Hl2
      isplitl [Hl3]; · iexact Hl3
      isplitl [Hl4]; · iexact Hl4
      isplitl [Hl5]; · iexact Hl5
      isplitl [Hs0]; · iexact Hs0
      isplitl [Hs1]; · iexact Hs1
      isplitl [Hs2]; · iexact Hs2
      isplitl [Hs3]; · iexact Hs3
      isplitl [Hs4]; · iexact Hs4
      isplitl [Hs5]; · iexact Hs5
      isplitl [Hw0]; · iexact Hw0
      iexact Hw1
    isplitl [HX HO HW HB]
    · isplitl [HX]; · iexact HX
      isplitl [HO]; · iexact HO
      isplitl [HW]; · iexact HW
      iexact HB
    iexact Hg
  isplitl [HWt]
  · iexists W'; isplitr; · ipureintro; exact fun _ _ => Or.inl trivial
    iexact HWt
  iempintro

/-- The call stages no array: what is said of each staged array says nothing. -/
theorem no_windows (P : Fin cfg0.W → sProp 𝕄) : BI.bigSep Finset.univ P = BI.emp := by
  rw [show (Finset.univ : Finset (Fin cfg0.W)) = ∅ from rfl, BI.bigSep_empty]

/-- The call's body is the body at its one point. -/
theorem defs₀_row (t : Fin cfg0.N) :
    defs₀ (F := F) .tc cfg0.body (cfg0.bodyArgs t (cfg0.slots t)) = bodyAt0 t := by
  unfold defs₀; rw [Defs.onTc_tc]

/-- The body's triple, as the launch asks for it. -/
theorem body_obligation (c : Dev nD) : BodyObligation (dats (F := F) m 0 c) (defs₀ (F := F)) Variants.none () Set.univ := fun t => by
  rw [no_windows, no_windows, defs₀_row]
  exact triple_restated (sound_body m c t) rfl .rfl fun _ => .rfl

/-! ## The run -/

set_option backward.isDefEq.respectTransparency.types false in
/-- The program's run: it ends with the used arrays at `Y`, the others as the host operation left them, every counter at
    zero. -/
theorem run_main : θ_run defs (onTc (τ := τ) (main (F := F))) (s₀ m ρ)
    (fun r => Pipeline.RoutedPost cfgs (dats m) 0 used (V m) (Y m) r ∧ r.2.sem = fun _ => 0) :=
  Pipeline.θ_run_frame_routed (Q' := _) cfgs (dats m) (0 : Fin 1) launch0 counters_facts defs₀ Variants.none m ρ main
    (hbody := fun c => (body_obligation m c).loose) (hshare := fun c => (dats m 0 c).share_full fun _ => rfl)
    (howed := fun _ _ => rfl) (V := V m)
    (hmain := Pipeline.hmain_prefix cfgs 0 defs₀ Variants.none m main hostOps0 hostOps0_sub hostOps0_fresh main_chain)
    (hA := fun _ w => w.elim0) (R := used) (hR := used_sub) (Y := Y m) (hin := fun _ => .rfl) (hout := fun _ => .rfl)

/-- The program's run, read at the result, the three arguments and the counters. -/
theorem run_read : θ_run defs (onTc (τ := τ) (main (F := F))) ⟨m, fun _ => 0, ρ⟩ (fun r => (∀ c : Dev nD,
      r.2.mem ((c.tc : Thread nD τ).loc main_v1) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c =>
    ⟨((h.1 c).2.1 main_v1 (by decide)).trans (Y_result m c),
      ((h.1 c).2.1 main_arg0 (by decide)).trans ((Y_other m c main_arg0 (by decide)).trans (V_main_arg0 m c)),
      ((h.1 c).2.1 main_arg1 (by decide)).trans ((Y_other m c main_arg1 (by decide)).trans (V_main_arg1 m c)),
      ((h.1 c).2.2 main_arg2 (Finset.mem_sdiff.2 ⟨Pipeline.mem_restRefs_of main_arg2 (by decide) (by decide), by decide⟩)).trans
        (V_main_arg2 m c)⟩, h.2⟩) (run_main m ρ)

/-- The program's frame: it ends with its three arguments as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => (h.1 c).2, h.2⟩) (run_read m ρ)

end Cert.KernelIdeal.Hand

end
-- ==== Proof.Layer.lean ====
/-
  The layer as one formula, which mentions no program: the entry at row `r` and output `n` is the sum of the products of
  row `r` of `x` with row `n` of the weight, plus entry `n` of the bias, made at least 0 and then at most 1.
-/
module

public import Idealize.ShloMosaic.Lib.ValueIdx

@[expose] public section

noncomputable section

namespace Cert.Layer

open Idealize.ShloMosaic Idealize.ShloMosaic.ValueIdx
open scoped BigOperators

/-- The clipped layer's entry at row `r` and output `n`, over the extended reals. -/
def entry {M K N : ℕ} (x : FVec Ideal ⟨2, ![M, K]⟩ .f32) (w : FVec Ideal ⟨2, ![N, K]⟩ .f32) (b : FVec Ideal ⟨1, ![N]⟩ .f32)
    (r : Fin M) (n : Fin N) : Ideal .f32 :=
  min (Ideal.ofBits .f32 0x3F800000#32) (max (Ideal.ofBits .f32 0x00000000#32) ((∑ k : Fin K, x (ix2 r k) * w (ix2 n k)) + b (ix1 n)))

/-- The clipped layer, entry by entry. -/
def layer {M K N : ℕ} (x : FVec Ideal ⟨2, ![M, K]⟩ .f32) (w : FVec Ideal ⟨2, ![N, K]⟩ .f32) (b : FVec Ideal ⟨1, ![N]⟩ .f32) :
    FVec Ideal ⟨2, ![M, N]⟩ .f32 := fun j => entry x w b (j 0) (j 1)

end Cert.Layer

end
-- ==== Proof.Value.lean ====
/-
  What the kernel's result holds at exact arithmetic: the layer of its arguments. One tile's entry is the layer's entry at the
  tile's row of `x`; the twenty tiles hold every row of the result.
-/
module

public import proofs.«01_k».proof.Proof.Run
public import proofs.«01_k».proof.Proof.Layer
public import Idealize.ShloMosaic.Lib.MatmulPlain
public import Idealize.ShloMosaic.Lib.Claim

@[expose] public section

set_option maxRecDepth 16384

noncomputable section

namespace Cert.KernelIdeal.Hand

open Cert.KernelIdeal Cert.KernelIdeal.Gen Cert.Layer
open Idealize.ShloMosaic Idealize.ShloMosaic.TcCoe Idealize.ShloMosaic.ValueIdx Idealize.SL.Sem
open scoped BigOperators

/-! ## One tile -/

/-- A tile's entry: the product's entry plus the bias' entry, made at least 0 and then at most 1. -/
theorem tileOut_apply {n : ℕ} (hb : S1x256.Broadcasts ⟨2, ![n, 256]⟩) (x : FVec Ideal ⟨2, ![n, 768]⟩ .f32)
    (w : FVec Ideal S256x768 .f32) (b : FVec Ideal S1x256 .f32) (p : Fin n) (q : Fin 256) :
    tileOut n hb x w b (ix2 p q) = min (Ideal.ofBits .f32 0x3F800000#32) (max (Ideal.ofBits .f32 0x00000000#32)
      ((∑ k : Fin 768, x (ix2 p k) * w (ix2 q k)) + b (ix2 0 q))) := by
  unfold tileOut
  rw [minimumf_apply, maximumf_apply, addf_apply]
  have hm := Ideal.matmul_transposedRhs_apply none x w (constant ⟨2, ![n, 256]⟩ .f32 0x00000000#32) p q
  rw [constant_apply, Ideal.ofBits_zero_f32, zero_add] at hm
  have hbias : broadcastTo ⟨2, ![n, 256]⟩ b hb (ix2 p q) = b (ix2 0 q) := by
    refine congrArg b ?_
    funext a; apply Fin.ext
    match a with
    | ⟨0, _⟩ => rfl
    | ⟨1, _⟩ => rfl
  rw [hbias]
  exact congrArg (fun z => min (Ideal.ofBits .f32 0x3F800000#32) (max (Ideal.ofBits .f32 0x00000000#32) (z + b (ix2 0 q)))) hm

variable (c : Dev nD) (fx : Buf (Elt Ideal) (xA.view.loc (c : Thread nD τ))) (fw : Buf (Elt Ideal) (wA.view.loc (c : Thread nD τ)))
  (fb : Buf (Elt Ideal) (bA.view.loc (c : Thread nD τ)))

/-- A tile agrees with the layer where it is written, for a bias whose row the kernel is given. -/
theorem tile_entry (n o : ℕ) (hb : S1x256.Broadcasts ⟨2, ![n, 256]⟩)
    (inb : ∀ a, (![o, 0] : Fin 2 → ℕ) a + (![n, 768] : Fin 2 → ℕ) a ≤ S16384x768.size a)
    (inb' : ∀ a, (![o, 0] : Fin 2 → ℕ) a + (![n, 256] : Fin 2 → ℕ) a ≤ S16384x256.size a)
    (b : FVec Ideal S256 .f32) (hrow : ∀ q : Fin 256, (bA.view.read (Elt Ideal) fb : FVec Ideal S1x256 .f32) (ix2 0 q) = b (ix1 q))
    (i : (⟨2, ![n, 256]⟩ : Shape).Idx) :
    (tile c n o hb inb inb' fx fw fb).2 i
      = layer (xA.view.read (Elt Ideal) fx) (wA.view.read (Elt Ideal) fw) b ((tile c n o hb inb inb' fx fw fb).1.emb i) := by
  obtain ⟨p, q, rfl⟩ : ∃ p q, i = ix2 p q := ⟨i 0, i 1, eq_ix2 i⟩
  refine (tileOut_apply hb _ _ _ p q).trans ?_
  have hp : o + 1 * p.val < 16384 := by have := inb' 0; have := p.isLt; simp at *; omega
  have e : (tile c n o hb inb inb' fx fw fb).1.emb (ix2 p q) = ix2 (⟨o + 1 * p.val, hp⟩ : Fin 16384) q := by
    funext a; apply Fin.ext
    match a with
    | ⟨0, _⟩ => rfl
    | ⟨1, _⟩ => show 0 + 1 * q.val = q.val; omega
  rw [e, hrow q]
  show _ = entry _ _ b (⟨o + 1 * p.val, hp⟩ : Fin 16384) q
  unfold entry
  refine congrArg (fun z => min (Ideal.ofBits .f32 0x3F800000#32) (max (Ideal.ofBits .f32 0x00000000#32) (z + b (ix1 q)))) ?_
  refine Finset.sum_congr rfl fun k _ => congrArg (· * _) ?_
  refine congrArg (xA.view.read (Elt Ideal) fx) ?_
  funext a; apply Fin.ext
  match a with
  | ⟨0, _⟩ => rfl
  | ⟨1, _⟩ => show 0 + 1 * k.val = k.val; omega

/-! ## The twenty tiles -/

/-- If the tiles of a list hold every row below `o`, then with the tile of `n` rows from `o` they hold every row below
    `o + n`. -/
theorem covered_cons {n o e : ℕ} {hb : S1x256.Broadcasts ⟨2, ![n, 256]⟩}
    {inb : ∀ a, (![o, 0] : Fin 2 → ℕ) a + (![n, 768] : Fin 2 → ℕ) a ≤ S16384x768.size a}
    {inb' : ∀ a, (![o, 0] : Fin 2 → ℕ) a + (![n, 256] : Fin 2 → ℕ) a ≤ S16384x256.size a}
    {L : List (View.Piece (Elt Ideal) S16384x256 .f32)} (he : e = o + n)
    (h : ∀ y : S16384x256.Idx, (y 0).val < o → ∃ p ∈ L, y ∈ p.1.set) :
    ∀ y : S16384x256.Idx, (y 0).val < e → ∃ p ∈ tile c n o hb inb inb' fx fw fb :: L, y ∈ p.1.set := by
  intro y hy
  by_cases ho : (y 0).val < o
  · obtain ⟨p, hp, hm⟩ := h y ho
    exact ⟨p, List.mem_cons_of_mem _ hp, hm⟩
  · refine ⟨_, List.mem_cons_self, (Rect.mem_set_unit (inb := inb')).2 fun a => ?_⟩
    match a with
    | ⟨0, _⟩ => exact ⟨Nat.le_of_not_lt ho, lt_of_lt_of_eq hy he⟩
    | ⟨1, _⟩ => exact ⟨Nat.zero_le _, lt_of_lt_of_eq (y 1).isLt (Nat.zero_add _).symm⟩

/-- The twenty tiles hold every row of the result. -/
theorem tiles_cover (y : S16384x256.Idx) : ∃ p ∈ tiles c fx fw fb, y ∈ p.1.set := by
  have all : ∀ y : S16384x256.Idx, (y 0).val < 16384 → ∃ p ∈ tiles c fx fw fb, y ∈ p.1.set := by
    unfold tiles
    repeat refine covered_cons c fx fw fb rfl ?_
    exact fun _ h => absurd h (Nat.not_lt_zero _)
  exact all y (y 0).isLt

/-- Every tile agrees with the layer. -/
theorem tiles_entry (b : FVec Ideal S256 .f32) (hrow : ∀ q : Fin 256, (bA.view.read (Elt Ideal) fb : FVec Ideal S1x256 .f32) (ix2 0 q) = b (ix1 q)) :
    ∀ p ∈ tiles c fx fw fb, ∀ i : p.1.shape.Idx,
      p.2 i = layer (xA.view.read (Elt Ideal) fx) (wA.view.read (Elt Ideal) fw) b (p.1.emb i) := by
  unfold tiles
  simp only [List.forall_mem_cons]
  repeat' refine And.intro (tile_entry c fx fw fb _ _ _ _ _ b hrow) ?_
  exact fun _ h => absurd h List.not_mem_nil

/-! ## The result -/

variable (m : (ℓ : Loc nD τ sig) → Buf (Elt Ideal) ℓ) (ρ : Dev nD → PrngReg)

/-- The row the kernel is given for the bias holds the bias. -/
theorem bias_row (q : Fin 256) :
    (bA.view.read (Elt Ideal) (V m c main_v0) : FVec Ideal S1x256 .f32) (ix2 0 q)
      = (m ((c : Thread nD τ).loc main_arg2) : FVec Ideal S256 .f32) (ix1 q) := by
  entry_read
  refine congrArg (m ((c : Thread nD τ).loc main_arg2) : FVec Ideal S256 .f32) ?_
  refine Shape.reshapeEquiv_eq_of_rowMajor _ ?_
  show (S256.rowMajor (ix1 q)).val = (S1x256.rowMajor (ix2 0 q)).val
  rw [Shape.rowMajor_val_one, Shape.rowMajor_val_two]
  show q.val = 0 * 256 + q.val
  omega

/-- The twenty tiles written over any array are the layer, for a bias whose row the kernel is given. -/
theorem written_layer (fo : Buf (Elt Ideal) (oA.view.loc (c : Thread nD τ))) (b : FVec Ideal S256 .f32)
    (hrow : ∀ q : Fin 256, (bA.view.read (Elt Ideal) fb : FVec Ideal S1x256 .f32) (ix2 0 q) = b (ix1 q)) :
    oA.view.writes (Elt Ideal) fo (tiles c fx fw fb) = layer (xA.view.read (Elt Ideal) fx) (wA.view.read (Elt Ideal) fw) b :=
  funext fun y => (congrFun (View.read_whole main_v1 (oA.view.writes (Elt Ideal) fo (tiles c fx fw fb))).symm y).trans
    (View.read_writes_apply_of_pieces oA.view fo (layer (xA.view.read (Elt Ideal) fx) (wA.view.read (Elt Ideal) fw) b)
      (tiles c fx fw fb) (tiles_entry c fx fw fb b hrow) y (tiles_cover c fx fw fb y))

/-- The kernel's result is the layer of its arguments. -/
theorem result_layer : result m c = layer (m ((c : Thread nD τ).loc main_arg0)) (m ((c : Thread nD τ).loc main_arg1))
    (m ((c : Thread nD τ).loc main_arg2)) := by
  have h := written_layer c (V m c main_arg0) (V m c main_arg1) (V m c main_v0) (V m c main_v1) _ (bias_row c m)
  rw [V_main_arg0 m c, V_main_arg1 m c] at h
  unfold result
  rw [V_main_arg0 m c, V_main_arg1 m c]
  exact h

/-- The kernel's run: it ends with its result at the layer of its arguments, the arguments unchanged. -/
theorem run_layer : θ_run defs (onTc (τ := τ) (main (F := Ideal))) ⟨m, fun _ => 0, ρ⟩ (fun r => ∀ c : Dev nD,
      r.2.mem ((c.tc : Thread nD τ).loc main_v1) = layer (m ((c.tc : Thread nD τ).loc main_arg0))
          (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h.1 c).1.trans (result_layer c m), (h.1 c).2⟩) (run_read m ρ)

end Cert.KernelIdeal.Hand

end
-- ==== Proof.Reference.lean ====
/-
  What the reference computes: `max(·, 0)` of the affine map, then clipped between 0 and 1. Clipping below at 0 a second time
  changes nothing, so it is the layer.
-/
module

public import proofs.«01_k».proof.Proof.Gen.ReferenceIdeal.Run
public import proofs.«01_k».proof.Proof.Layer
public import Idealize.ShloMosaic.Lib.StackMember

@[expose] public section

noncomputable section

namespace Cert.ReferenceIdeal.Hand

open Cert.ReferenceIdeal Cert.ReferenceIdeal.Gen Cert.Layer
open Idealize.ShloMosaic Idealize.ShloMosaic.TcCoe Idealize.ShloMosaic.ValueIdx Idealize.SL.Sem
open scoped BigOperators

/-- The product of `x` with the weight's transpose, at row `r` and output `n`. -/
theorem product_apply (x : FVec Ideal S16384x768 .f32) (w : FVec Ideal S256x768 .f32) (r : Fin 16384) (n : Fin 256) :
    Host.dotGeneral dot_S16384x768_S768x256_S16384x256_1_0_0_1_n_n none x
        (transpose S768x256 [1, 0] w transposes_S256x768_S768x256_1_0) (ix2 r n)
      = ∑ k : Fin 768, x (ix2 r k) * w (ix2 n k) := by
  refine (StackMember.dotGeneral_plain_apply (m := 16384) (k := 768) (n := 256) none x
    (transpose S768x256 [1, 0] w transposes_S256x768_S768x256_1_0) r n).trans ?_
  refine Finset.sum_congr rfl fun k _ => congrArg (x (ix2 r k) * ·) (congrArg w ?_)
  funext a; apply Fin.ext
  match a with
  | ⟨0, _⟩ => rfl
  | ⟨1, _⟩ => rfl

/-- The bias repeated down the rows, at row `r` and output `n`. -/
theorem bias_apply (b : FVec Ideal S256 .f32) (r : Fin 16384) (n : Fin 256) :
    broadcastInDim S16384x256 ![0, 1] bcast_S1x256_S16384x256_0_1 (broadcastInDim S1x256 ![1] bcast_S256_S1x256_1 b) (ix2 r n)
      = b (ix1 n) := by
  refine congrArg b ?_
  funext a; apply Fin.ext
  match a with
  | ⟨0, _⟩ => rfl

/-- The reference's result is the layer. -/
theorem result_eq (x : FVec Ideal S16384x768 .f32) (w : FVec Ideal S256x768 .f32) (b : FVec Ideal S256 .f32) :
    minimumf (broadcastInDim S16384x256 ![] bcast_S_S16384x256 (id (constant S_ .f32 0x3F800000#32)))
      (maximumf (broadcastInDim S16384x256 ![] bcast_S_S16384x256 (id (constant S_ .f32 0x00000000#32)))
        (maximumf (addf (Host.dotGeneral dot_S16384x768_S768x256_S16384x256_1_0_0_1_n_n none x
              (transpose S768x256 [1, 0] w transposes_S256x768_S768x256_1_0))
            (broadcastInDim S16384x256 ![0, 1] bcast_S1x256_S16384x256_0_1 (broadcastInDim S1x256 ![1] bcast_S256_S1x256_1 b)))
          (broadcastInDim S16384x256 ![] bcast_S_S16384x256 (constant S_ .f32 0x00000000#32))))
      = layer x w b := by
  funext j
  obtain ⟨r, n, rfl⟩ : ∃ r n, j = ix2 r n := ⟨j 0, j 1, eq_ix2 j⟩
  rw [minimumf_apply, maximumf_apply, maximumf_apply, addf_apply, product_apply, bias_apply]
  show min (Ideal.ofBits .f32 0x3F800000#32) (max (Ideal.ofBits .f32 0x00000000#32)
    (max _ (Ideal.ofBits .f32 0x00000000#32))) = entry x w b r n
  rw [max_comm _ (Ideal.ofBits .f32 0x00000000#32), ← max_assoc, max_self]
  rfl

/-- The reference's run: it ends with its result at the layer of its arguments, the arguments unchanged. -/
theorem run_layer (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v6) = layer (m ((c.tc : Thread nD τ).loc main_arg0))
          (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (result_eq _ _ _), (h c).2⟩) (Value.run m ρ)

end Cert.ReferenceIdeal.Hand

end
-- ==== Proof.lean ====
/-
  The claims, assembled. The kernel's frame holds for any floats (`Proof/Run.lean`); the kernel as it runs on words and the
  kernel as it is read at exact arithmetic are one text, so that one theorem gives both frames. At exact arithmetic the kernel's
  result (`Proof/Value.lean`) and the reference's result (`Proof/Reference.lean`) are each the layer of the arguments.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Run
public import proofs.«01_k».proof.Proof.Value
public import proofs.«01_k».proof.Proof.Reference
public import Idealize.ShloMosaic.Lib.Quiescent

@[expose] public section

set_option maxRecDepth 65536

noncomputable section

namespace Cert.Proof

open Idealize.ShloMosaic Idealize.SL.Sem

set_option maxHeartbeats 4000000 in
/-- The kernel on words runs, ends with its arguments unchanged and every counter at zero. -/
theorem kernel_frame : Cert.quiescent_Kernel (hKernel := Cert.Kernel.Gen.facts) := by
  intro m g _
  exact Cert.KernelIdeal.Hand.frame (F := Bits) m g

/-- The kernel at exact arithmetic runs, ends with its arguments unchanged and every counter at zero. -/
theorem kernelIdeal_frame : Cert.quiescent_KernelIdeal (hKernelIdeal := Cert.KernelIdeal.Gen.facts) :=
  fun m g _ => Cert.KernelIdeal.Hand.frame (F := Ideal) m g

/-- The reference runs, ends with its arguments unchanged; it has no counter. -/
theorem reference_frame : Cert.quiescent_ReferenceIdeal (hReferenceIdeal := Cert.ReferenceIdeal.Gen.facts) :=
  fun m g _ => (θ_run Cert.ReferenceIdeal.defs _ _).mono
    (fun r h => ⟨fun c => (h c).2, sem_eq_zero_of_no_sems (by decide) r.2⟩) (Cert.ReferenceIdeal.Hand.run_layer m g)

/-- From the same arguments the kernel and the reference end with equal results: both hold the layer of the arguments. -/
theorem equal_results : Cert.algebraic_KernelIdeal_ReferenceIdeal (hKernelIdeal := Cert.KernelIdeal.Gen.facts)
    (hReferenceIdeal := Cert.ReferenceIdeal.Gen.facts) := fun m g m' g' _ hargs =>
  ⟨fun c => Cert.Layer.layer (m (c.tc.loc Cert.KernelIdeal.main_arg0)) (m (c.tc.loc Cert.KernelIdeal.main_arg1))
      (m (c.tc.loc Cert.KernelIdeal.main_arg2)),
    Cert.KernelIdeal.Hand.run_layer m g,
    (θ_run Cert.ReferenceIdeal.defs _ _).mono (fun r h c => by
      have hc := h c
      obtain ⟨h0, h1, h2⟩ := hargs c
      refine ⟨hc.1.trans ?_, hc.2⟩
      rw [h0, h1, h2]) (Cert.ReferenceIdeal.Hand.run_layer m' g')⟩

/-- Everything claimed. -/
theorem claim : Cert.Claim := ⟨Cert.Kernel.Gen.facts, Cert.KernelIdeal.Gen.facts, Cert.ReferenceIdeal.Gen.facts,
  kernel_frame, kernelIdeal_frame, reference_frame, trivial, equal_results⟩

end Cert.Proof

end
